-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_loggable_first_half_marked [hPre_scores_loggable_first_half_marked : Cert.Pre_scores_loggable_first_half_marked.Facts] (m : (ℓ : Loc Cert.KernelIdeal.nD Cert.KernelIdeal.τ Cert.KernelIdeal.sig) → Buf (Elt Ideal) ℓ) : Prop :=
  ∀ c : Dev Cert.KernelIdeal.nD,
    (Cert.Pre_scores_loggable_first_half_marked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_scores_loggable_first_half_marked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_loggable_first_half_marked [hPre_scores_loggable_first_half_marked : Cert.Pre_scores_loggable_first_half_marked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_loggable_first_half_marked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_scores_loggable_first_half_marked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scores_loggable_first_half_marked [hKernelIdeal : Cert.KernelIdeal.Facts] [hPre_scores_loggable_first_half_marked : Cert.Pre_scores_loggable_first_half_marked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_loggable_first_half_marked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scores_loggable_first_half_marked [hReferenceIdeal : Cert.ReferenceIdeal.Facts] [hPre_scores_loggable_first_half_marked : Cert.Pre_scores_loggable_first_half_marked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_loggable_first_half_marked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_scores_loggable_first_half_marked [hKernelIdeal : Cert.KernelIdeal.Facts] [hReferenceIdeal : Cert.ReferenceIdeal.Facts] [hPre_scores_loggable_first_half_marked : Cert.Pre_scores_loggable_first_half_marked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_loggable_first_half_marked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_scores_loggable_first_half_marked : Cert.Pre_scores_loggable_first_half_marked.Facts),
    quiescent_Kernel (hKernel := hKernel)
    ∧ quiescent_KernelIdeal (hKernelIdeal := hKernelIdeal)
    ∧ quiescent_KernelIdeal_pre_scores_loggable_first_half_marked (hKernelIdeal := hKernelIdeal) (hPre_scores_loggable_first_half_marked := hPre_scores_loggable_first_half_marked)
    ∧ quiescent_ReferenceIdeal (hReferenceIdeal := hReferenceIdeal)
    ∧ quiescent_ReferenceIdeal_pre_scores_loggable_first_half_marked (hReferenceIdeal := hReferenceIdeal) (hPre_scores_loggable_first_half_marked := hPre_scores_loggable_first_half_marked)
    ∧ preserves_Kernel_KernelIdeal
    ∧ algebraic_KernelIdeal_ReferenceIdeal_pre_scores_loggable_first_half_marked (hKernelIdeal := hKernelIdeal) (hReferenceIdeal := hReferenceIdeal) (hPre_scores_loggable_first_half_marked := hPre_scores_loggable_first_half_marked)
-- ==== Pre_scores_loggable_first_half_marked.lean ====
abbrev S_ : Shape := ⟨0, ![]⟩
abbrev S1 : Shape := ⟨1, ![1]⟩
abbrev S32x8732x21 : Shape := ⟨3, ![32, 8732, 21]⟩
abbrev S32x8732x4 : Shape := ⟨3, ![32, 8732, 4]⟩
abbrev S16 : Shape := ⟨1, ![16]⟩
abbrev S16x8732x21 : Shape := ⟨3, ![16, 8732, 21]⟩
abbrev S16x1 : Shape := ⟨2, ![16, 1]⟩
abbrev S1x16 : Shape := ⟨2, ![1, 16]⟩
abbrev S16x16 : Shape := ⟨2, ![16, 16]⟩

class Facts : Prop where
  bcast_S_S16 : S_.BroadcastsInDim S16 (![] : Fin 0 → Fin S16.rank)
  slices_S32x8732x21_S16x8732x21_0_0_0 : S32x8732x21.Slices ![0, 0, 0] S16x8732x21
  bcast_S_S16x8732x21 : S_.BroadcastsInDim S16x8732x21 (![] : Fin 0 → Fin S16x8732x21.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  reducesTo_S16x16_S16_d0 : S16x16.ReducesTo [0] S16
  h_S_ : 0 < S_.numel

variable [Facts]

def fn_where {F : FTy → Type} [FloatOps F] (arg0 : IVec S16 1) (arg1 : IVec S16 32) (arg2 : IVec S16 32) : IVec S16 32 :=
  let v0 : IVec S16 32 := select arg0 arg1 arg2
  v0

def fn {F : FTy → Type} [FloatOps F] (main_arg0 : IVec S_ 32) (main_arg1 : FVec F S1 .f32) (main_arg2 : FVec F S32x8732x21 .f32) (main_arg3 : FVec F S32x8732x21 .f32) (main_arg4 : FVec F S32x8732x4 .f32) (main_arg5 : FVec F S32x8732x4 .f32) (main_arg6 : FVec F S32x8732x21 .f32) (main_arg7 : FVec F S32x8732x21 .f32) (main_arg8 : FVec F S32x8732x4 .f32) (main_arg9 : FVec F S32x8732x4 .f32) (main_arg10 : IVec S16 32) : IVec S16x8732x21 1 × IVec S16 1 :=
  let main_c : IVec S_ 32 := constantI S_ 32 0#32
  let main_v0 : IVec S16 32 := broadcastInDim S16 ![] bcast_S_S16 main_c
  let main_v1 : IVec S16 1 := cmpi .slt main_arg10 main_v0
  let main_c_0 : IVec S_ 32 := constantI S_ 32 32#32
  let main_v2 : IVec S16 32 := broadcastInDim S16 ![] bcast_S_S16 main_c_0
  let main_v3 : IVec S16 32 := addi main_arg10 main_v2
  let main_v4 : IVec S16 32 := fn_where (F := F) main_v1 main_v3 main_arg10
  let main_v5 : FVec F S16x8732x21 .f32 := (extractStridedSlice S16x8732x21 ![0, 0, 0] · slices_S32x8732x21_S16x8732x21_0_0_0) main_arg7
  let main_cst : FVec F S_ .f32 := constant S_ .f32 0x33D6BF95#32
  let main_v6 : FVec F S16x8732x21 .f32 := broadcastInDim S16x8732x21 ![] bcast_S_S16x8732x21 main_cst
  let main_v7 : FVec F S16x8732x21 .f32 := addf main_v5 main_v6
  let main_cst_1 : FVec F S_ .f32 := constant S_ .f32 0x00000000#32
  let main_v8 : FVec F S16x8732x21 .f32 := broadcastInDim S16x8732x21 ![] bcast_S_S16x8732x21 main_cst_1
  let main_v9 : IVec S16x8732x21 1 := cmpf .oge main_v7 main_v8
  let main_v10 : IVec S16x1 32 := broadcastInDim S16x1 ![0] bcast_S16_S16x1_0 main_v4
  let main_v11 : IVec S16 32 := iotaInDim S16 32 0
  let main_v12 : IVec S1x16 32 := broadcastInDim S1x16 ![1] bcast_S16_S1x16_1 main_v11
  let main_v13 : IVec S16x16 32 := broadcastInDim S16x16 ![0, 1] bcast_S16x1_S16x16_0_1 main_v10
  let main_v14 : IVec S16x16 32 := broadcastInDim S16x16 ![0, 1] bcast_S1x16_S16x16_0_1 main_v12
  let main_v15 : IVec S16x16 1 := cmpi .eq main_v13 main_v14
  let main_c_2 : IVec S_ 1 := constantI S_ 1 0#1
  let main_v16 : IVec S16 1 := (fun x v => Host.reduce IntOp.ori x v reducesTo_S16x16_S16_d0 h_S_) main_v15 main_c_2
  (main_v9, main_v16)
-- ==== Kernel.lean ====
abbrev S_ : Shape := ⟨0, ![]⟩
abbrev S1 : Shape := ⟨1, ![1]⟩
abbrev S32x8732x21 : Shape := ⟨3, ![32, 8732, 21]⟩
abbrev S32x8732x4 : Shape := ⟨3, ![32, 8732, 4]⟩
abbrev S16 : Shape := ⟨1, ![16]⟩
abbrev S16x8732x21 : Shape := ⟨3, ![16, 8732, 21]⟩
abbrev S1x1 : Shape := ⟨2, ![1, 1]⟩
abbrev S1x8736x21 : Shape := ⟨3, ![1, 8736, 21]⟩
abbrev S8736x21 : Shape := ⟨2, ![8736, 21]⟩
abbrev S8736 : Shape := ⟨1, ![8736]⟩
abbrev S8736x1 : Shape := ⟨2, ![8736, 1]⟩
abbrev S8736x20 : Shape := ⟨2, ![8736, 20]⟩
abbrev S1x8736x1 : Shape := ⟨3, ![1, 8736, 1]⟩
abbrev S1x1x1 : Shape := ⟨3, ![1, 1, 1]⟩

abbrev nBuf : Space → Nat
  | .hbm => 27
  | .vmem => 8
  | .smem => 0
  | _ => 0

abbrev bufTy : (tb : Table) → Fin (tcTables nBuf tb) → BufTy
  | .hbm, ⟨0, _⟩ => ⟨S_, .i32⟩
  | .hbm, ⟨1, _⟩ => ⟨S1, .f32⟩
  | .hbm, ⟨2, _⟩ => ⟨S32x8732x21, .f32⟩
  | .hbm, ⟨3, _⟩ => ⟨S32x8732x21, .f32⟩
  | .hbm, ⟨4, _⟩ => ⟨S32x8732x4, .f32⟩
  | .hbm, ⟨5, _⟩ => ⟨S32x8732x4, .f32⟩
  | .hbm, ⟨6, _⟩ => ⟨S32x8732x21, .f32⟩
  | .hbm, ⟨7, _⟩ => ⟨S32x8732x21, .f32⟩
  | .hbm, ⟨8, _⟩ => ⟨S32x8732x4, .f32⟩
  | .hbm, ⟨9, _⟩ => ⟨S32x8732x4, .f32⟩
  | .hbm, ⟨10, _⟩ => ⟨S16, .i32⟩
  | .hbm, ⟨11, _⟩ => ⟨S16x8732x21, .f32⟩
  | .hbm, ⟨12, _⟩ => ⟨S16x8732x21, .f32⟩
  | .hbm, ⟨13, _⟩ => ⟨S16x8732x21, .f32⟩
  | .hbm, ⟨14, _⟩ => ⟨S1x1, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .local _ .vmem, ⟨0, _⟩ => ⟨S1x8736x21, .f32⟩
  | .local _ .vmem, ⟨1, _⟩ => ⟨S1x8736x21, .f32⟩
  | .local _ .vmem, ⟨2, _⟩ => ⟨S1x8736x21, .f32⟩
  | .local _ .vmem, ⟨3, _⟩ => ⟨S1x8736x21, .f32⟩
  | .local _ .vmem, ⟨4, _⟩ => ⟨S1x8736x21, .f32⟩
  | .local _ .vmem, ⟨5, _⟩ => ⟨S1x8736x21, .f32⟩
  | .local _ .vmem, ⟨6, _⟩ => ⟨S1x1, .f32⟩
  | .local _ .vmem, ⟨7, _⟩ => ⟨S1x1, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8736x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8736x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8736x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S_ : Shape := ⟨0, ![]⟩
abbrev S1 : Shape := ⟨1, ![1]⟩
abbrev S32x8732x21 : Shape := ⟨3, ![32, 8732, 21]⟩
abbrev S32x8732x4 : Shape := ⟨3, ![32, 8732, 4]⟩
abbrev S16 : Shape := ⟨1, ![16]⟩
abbrev S16x8732x21 : Shape := ⟨3, ![16, 8732, 21]⟩
abbrev S32x8732x20 : Shape := ⟨3, ![32, 8732, 20]⟩
abbrev S32x8732 : Shape := ⟨2, ![32, 8732]⟩
abbrev S32x8732x1 : Shape := ⟨3, ![32, 8732, 1]⟩
abbrev S32 : Shape := ⟨1, ![32]⟩
abbrev S16x1 : Shape := ⟨2, ![16, 1]⟩
abbrev S32x1 : Shape := ⟨2, ![32, 1]⟩

abbrev nBuf : Space → Nat
  | .hbm => 74
  | .vmem => 0
  | .smem => 0
  | _ => 0

abbrev bufTy : (tb : Table) → Fin (tcTables nBuf tb) → BufTy
  | .hbm, ⟨0, _⟩ => ⟨S_, .i32⟩
  | .hbm, ⟨1, _⟩ => ⟨S1, .f32⟩
  | .hbm, ⟨2, _⟩ => ⟨S32x8732x21, .f32⟩
  | .hbm, ⟨3, _⟩ => ⟨S32x8732x21, .f32⟩
  | .hbm, ⟨4, _⟩ => ⟨S32x8732x4, .f32⟩
  | .hbm, ⟨5, _⟩ => ⟨S32x8732x4, .f32⟩
  | .hbm, ⟨6, _⟩ => ⟨S32x8732x21, .f32⟩
  | .hbm, ⟨7, _⟩ => ⟨S32x8732x21, .f32⟩
  | .hbm, ⟨8, _⟩ => ⟨S32x8732x4, .f32⟩
  | .hbm, ⟨9, _⟩ => ⟨S32x8732x4, .f32⟩
  | .hbm, ⟨10, _⟩ => ⟨S16, .i32⟩
  | .hbm, ⟨11, _⟩ => ⟨S16x8732x21, .f32⟩
  | .hbm, ⟨12, _⟩ => ⟨S16x8732x21, .f32⟩
  | .hbm, ⟨13, _⟩ => ⟨S32x8732x21, .f32⟩
  | .hbm, ⟨14, _⟩ => ⟨S32x8732x20, .f32⟩
  | .hbm, ⟨15, _⟩ => ⟨S_, .f32⟩
  | .hbm, ⟨16, _⟩ => ⟨S32x8732, .f32⟩
  | .hbm, ⟨17, _⟩ => ⟨S32x8732x1, .f32⟩
  | .hbm, ⟨18, _⟩ => ⟨S32x8732, .f32⟩
  | .hbm, ⟨19, _⟩ => ⟨S32x8732, .i1⟩
  | .hbm, ⟨20, _⟩ => ⟨S_, .i1⟩
  | .hbm, ⟨21, _⟩ => ⟨S32, .i1⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S16x1, .i32⟩
  | .hbm, ⟨30, _⟩ => ⟨S_, .i1⟩
  | .hbm, ⟨31, _⟩ => ⟨S16, .i1⟩
  | .hbm, ⟨32, _⟩ => ⟨S32, .i1⟩
  | .hbm, ⟨33, _⟩ => ⟨S32x1, .i1⟩
  | .hbm, ⟨34, _⟩ => ⟨S32x8732, .i1⟩
  | .hbm, ⟨35, _⟩ => ⟨S32x8732, .i1⟩
  | .hbm, ⟨36, _⟩ => ⟨S32x8732x20, .f32⟩
  | .hbm, ⟨37, _⟩ => ⟨S_, .f32⟩
  | .hbm, ⟨38, _⟩ => ⟨S32x8732, .f32⟩
  | .hbm, ⟨39, _⟩ => ⟨S32x8732x1, .f32⟩
  | .hbm, ⟨40, _⟩ => ⟨S32x8732, .f32⟩
  | .hbm, ⟨41, _⟩ => ⟨S32x8732, .i1⟩
  | .hbm, ⟨42, _⟩ => ⟨S32x8732, .f32⟩
  | .hbm, ⟨43, _⟩ => ⟨S32x8732, .f32⟩
  | .hbm, ⟨44, _⟩ => ⟨S_, .f32⟩
  | .hbm, ⟨45, _⟩ => ⟨S32x8732, .f32⟩
  | .hbm, ⟨46, _⟩ => ⟨S32x8732, .f32⟩
  | .hbm, ⟨47, _⟩ => ⟨S32x8732, .f32⟩
  | .hbm, ⟨48, _⟩ => ⟨S_, .f32⟩
  | .hbm, ⟨49, _⟩ => ⟨S32x8732x21, .f32⟩
  | .hbm, ⟨50, _⟩ => ⟨S32x8732x21, .f32⟩
  | .hbm, ⟨51, _⟩ => ⟨S_, .f32⟩
  | .hbm, ⟨52, _⟩ => ⟨S32x8732x21, .f32⟩
  | .hbm, ⟨53, _⟩ => ⟨S32x8732x21, .f32⟩
  | .hbm, ⟨54, _⟩ => ⟨S32x8732x21, .f32⟩
  | .hbm, ⟨55, _⟩ => ⟨S32x8732x21, .f32⟩
  | .hbm, ⟨56, _⟩ => ⟨S32x8732x21, .f32⟩
  | .hbm, ⟨57, _⟩ => ⟨S32x8732x21, .f32⟩
  | .hbm, ⟨58, _⟩ => ⟨S_, .f32⟩
  | .hbm, ⟨59, _⟩ => ⟨S32x8732, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i1⟩
  | .hbm, ⟨64, _⟩ => ⟨S32x8732, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_cst_13 : Ref sig .tc := ⟨.hbm, 72, rfl⟩
abbrev main_v46 : Ref sig .tc := ⟨.hbm, 73, rfl⟩

abbrev nD : Nat := 1
abbrev τ : Topo := Topo.v7x

variable {F : FTy → Type} [FloatOps F]
-- ==== Proof.KernelFrame.lean ====
module

public import proofs.«01_k».proof.Proof.KernelBody
public import Idealize.ShloMosaic.Lib.Pipeline.Quiescent

@[expose] public section

set_option maxRecDepth 16384

noncomputable section

/-! The kernel's frame: it ends with its arguments unchanged and its counters at zero, for any float values. -/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's staging buffer after the body: its block, and past the array's end a zero that nothing reads. -/
def held (c : Dev nD) (w : Fin cfg0.W) (z : Elt F (cfg0.win w).elt) (t : Fin cfg0.N) :
    (cfg0.win w).block.Idx → Elt F (cfg0.win w).elt :=
  (cfg0.win w).fill (cfg0.grid.coords t) (fun _ => z) (iblk m c w t)

/-- The proof data: the arrays as the region finds them; the input buffers at their blocks; the two running totals
    at contents that nothing names. -/
def dats (_ : Fin 1) (c : Dev nD) : Dat τ (Elt F) Unit ℕ (UR sig nD τ) ℕ cfg0 c where
  A w := V m c (Pipeline.arrRef spec0 w)
  after w t := match w with
    | ⟨0, _⟩ => held m c 0 (Scalar.ofBits .f32 0#32) t
    | ⟨1, _⟩ => held m c 1 (Scalar.ofBits .f32 0#32) t
    | ⟨2, _⟩ => held m c 2 (Scalar.ofBits .f32 0#32) t
    | ⟨3, _⟩ => fun _ => Scalar.ofBits .f32 0#32
    | ⟨4, _⟩ => fun _ => Scalar.ofBits .f32 0#32
  Φ _ := Pipeline.ΦA spec0 c
  q _ := fullShare
  owed _ := 0

/-- The windows whose contents are not named: the two running totals. -/
def fgt : Fin cfg0.W → Bool := fun w => decide (3 ≤ w.val)

/-- What the left window holds before a point. -/
theorem before_0 (c : Dev nD) (t : Fin cfg0.N) (d) :
    (dats m 0 c).before (0 : Fin 5) t d = (cfg0.win 0).fill (cfg0.grid.coords t) d (iblk m c 0 t) := by
  rw [Dat.before_fetched _ _ _ (fetch0_0 t)]; rfl
/-- What the right window holds before a point. -/
theorem before_1 (c : Dev nD) (t : Fin cfg0.N) (d) :
    (dats m 0 c).before (1 : Fin 5) t d = (cfg0.win 1).fill (cfg0.grid.coords t) d (iblk m c 1 t) := by
  rw [Dat.before_fetched _ _ _ (fetch0_1 t)]; rfl
/-- What the interpolated window holds before a point. -/
theorem before_2 (c : Dev nD) (t : Fin cfg0.N) (d) :
    (dats m 0 c).before (2 : Fin 5) t d = (cfg0.win 2).fill (cfg0.grid.coords t) d (iblk m c 2 t) := by
  rw [Dat.before_fetched _ _ _ (fetch0_2 t)]; rfl

/-- A point's call runs the body at the point's own slots. -/
theorem defs₀_row (t : Fin cfg0.N) : defs₀ (F := F) .tc cfg0.body (cfg0.bodyArgs t (cfg0.slots t)) = bodyAt0 t := by
  unfold defs₀; rw [Defs.onTc_tc]

/-- The loose ending of an input window: its buffer still carries its block. -/
theorem left (c : Dev nD) (w : Fin cfg0.W) (z) (t : Fin cfg0.N) (d : (cfg0.win w).block.Idx → Elt F (cfg0.win w).elt) :
    (cfg0.win w).fill (cfg0.grid.coords t) d ((cfg0.win w).cut (cfg0.grid.coords t) (held m c w z t))
      = (cfg0.win w).fill (cfg0.grid.coords t) d (iblk m c w t) := by
  unfold held; rw [Window.cut_fill]

/-- One grid point: the body runs from the staged blocks and any totals, and leaves the blocks as they were. -/
theorem body_obligation (c : Dev nD) : BodyObligationLoose (dats m 0 c) (defs₀ (F := F)) Variants.none () Set.univ fgt := fun t => by
  have f0 : fgt 0 = false := rfl
  have f1 : fgt 1 = false := rfl
  have f2 : fgt 2 = false := rfl
  have f3 : fgt 3 = true := rfl
  have f4 : fgt 4 = true := rfl
  rw [bigSep_W0, bigSep_W0, defs₀_row]
  simp only [f0, f1, f2, f3, f4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%P3, H3⟩, ⟨%P4, H4⟩⟩
  rw [before_0, before_1, before_2]
  unfold bodyAt0
  by_cases hc : first (grid0.coords t)
  · iapply (sound_first c (grid0.coords t) hc _ _ _ _ _ _ _ _ _ _ _ _ _ _ _ _)
    isplitl [H0 H1 H2 H3 H4]
    · isplitl [H0]; · iexact H0
      isplitl [H1]; · iexact H1
      isplitl [H2]; · iexact H2
      isplitl [H3]; · iexact H3
      iexact H4
    · iintro ⟨H0, H1, H2, H3, H4⟩
      isplitl [HΦ]; · iexact HΦ
      isplitl [Ho]; · iexact Ho
      isplitl [H0]
      · iexists d0; rw [← left m c 0 (Scalar.ofBits .f32 0#32) t d0]; iexact H0
      isplitl [H1]
      · iexists d1; rw [← left m c 1 (Scalar.ofBits .f32 0#32) t d1]; iexact H1
      isplitl [H2]
      · iexists d2; rw [← left m c 2 (Scalar.ofBits .f32 0#32) t d2]; iexact H2
      isplitl [H3]
      · iexists _; iexact H3
      · iexists _; iexact H4
  · iapply (sound_later c (grid0.coords t) hc _ _ _ _ _ _ _ _ _ _ _ _ _ _ _ _)
    isplitl [H0 H1 H2 H3 H4]
    · isplitl [H0]; · iexact H0
      isplitl [H1]; · iexact H1
      isplitl [H2]; · iexact H2
      isplitl [H3]; · iexact H3
      iexact H4
    · iintro ⟨H0, H1, H2, H3, H4⟩
      isplitl [HΦ]; · iexact HΦ
      isplitl [Ho]; · iexact Ho
      isplitl [H0]
      · iexists d0; rw [← left m c 0 (Scalar.ofBits .f32 0#32) t d0]; iexact H0
      isplitl [H1]
      · iexists d1; rw [← left m c 1 (Scalar.ofBits .f32 0#32) t d1]; iexact H1
      isplitl [H2]
      · iexists d2; rw [← left m c 2 (Scalar.ofBits .f32 0#32) t d2]; iexact H2
      isplitl [H3]
      · iexists _; iexact H3
      · iexists _; iexact H4

/-- The buffers the lines after the region write. -/
def tailWrites : Finset (Ref sig .tc) :=
  {main_v4, main_cst, main_v5, main_v6, main_cst_0, main_v7, main_v8, main_cst_1, main_v9, main_cst_2, main_v10}

/-- Every line after the region writes one of the buffers listed. -/
theorem tailWrites_of : ∀ ops ∈ ([hostOps1, hostOps1_1, hostOps1_2] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  have inj : ∀ b b' : Ref sig .tc, (Proc.devRef .tc b : DevRef τ sig) = Proc.devRef .tc b' → b = b' := by
    intro b b' h
    by_contra hne
    exact StableHlo.devRef_ne_of_ne hne h
  rcases hops with rfl | rfl | rfl
  · simp only [hostOps1, List.mem_cons, List.mem_nil_iff, or_false] at hop
    rcases hop with rfl | rfl | rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      rw [inj _ _ hb]; decide
  · simp only [hostOps1_1, List.mem_cons, List.mem_nil_iff, or_false] at hop
    rcases hop with rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      rw [inj _ _ hb]; decide
  · simp only [hostOps1_2, List.mem_cons, List.mem_nil_iff, or_false] at hop
    rcases hop with rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      rw [inj _ _ hb]; decide

set_option backward.isDefEq.respectTransparency.types false in
/-- The kernel, run from any memory, ends with its arguments as launched and its counters at zero. -/
theorem frame_run : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  Pipeline.θ_run_frame_around_T_forget cfgs (dats m) (0 : Fin 1) launch0 (defs₀ (F := F)) Variants.none fgt tailWrites m ρ main
    (fun c => body_obligation m c) (fun c w => by fin_cases w <;> rfl) (fun _ _ => rfl) (V0 m)
    [hostOps1, hostOps1_1, hostOps1_2] sfx_sub sfx_fresh sfx_keeps tailWrites_of (hmain m Variants.none)
    (fun _ _ => rfl) (fun _ _ => rfl) _ (by
      rintro r ⟨h, hs⟩
      refine ⟨fun c => ?_, hs⟩
      have key : ∀ b : Ref sig .tc, b ∈ Pipeline.restRefs sig spec0 → b ∉ tailWrites →
          r.2.mem ((c.tc : Thread nD τ).loc b) = V m c b := fun b hb hn => (h c).2 b (Finset.mem_sdiff.mpr ⟨hb, hn⟩)
      exact ⟨(key main_arg0 (Pipeline.mem_restRefs_of main_arg0 (by decide) (by decide)) (by decide)).trans (V_main_arg0 m c),
        (key main_arg1 (Pipeline.mem_restRefs_of main_arg1 (by decide) (by decide)) (by decide)).trans (V_main_arg1 m c),
        (key main_arg2 (Pipeline.mem_restRefs_of main_arg2 (by decide) (by decide)) (by decide)).trans (V_main_arg2 m c),
        (key main_arg3 (Pipeline.mem_restRefs_of main_arg3 (by decide) (by decide)) (by decide)).trans (V_main_arg3 m c),
        (key main_arg4 (Pipeline.mem_restRefs_of main_arg4 (by decide) (by decide)) (by decide)).trans (V_main_arg4 m c),
        (key main_arg5 (Pipeline.mem_restRefs_of main_arg5 (by decide) (by decide)) (by decide)).trans (V_main_arg5 m c),
        (key main_arg6 (Pipeline.mem_restRefs_of main_arg6 (by decide) (by decide)) (by decide)).trans (V_main_arg6 m c),
        (key main_arg7 (Pipeline.mem_restRefs_of main_arg7 (by decide) (by decide)) (by decide)).trans (V_main_arg7 m c),
        (key main_arg8 (Pipeline.mem_restRefs_of main_arg8 (by decide) (by decide)) (by decide)).trans (V_main_arg8 m c),
        (key main_arg9 (Pipeline.mem_restRefs_of main_arg9 (by decide) (by decide)) (by decide)).trans (V_main_arg9 m c),
        (key main_arg10 (Pipeline.mem_restRefs_of main_arg10 (by decide) (by decide)) (by decide)).trans (V_main_arg10 m c)⟩)

end Cert.Kernel.Body

end
-- ==== Proof.IdealBody.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

/-! The idealized kernel's body, at the first point and at a later one: what it reads and what it stores. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's test for its first point: both grid coordinates zero. -/
abbrev first (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1

/-- The running weighted sum after a point, from the three blocks and what it was before. -/
def numStep (i : grid0.Coords) (X0 X1 X2 : Vec F S1x8736x21 .f32) (P : Vec F S1x1 .f32) : FVec F S1x1 .f32 :=
  k0_pay2 (k0_pay7 X0 X2) (k0_pay8 X0) (k0_pay9 i) (k0_pay10 X1) P

/-- The running count after a point, from the two mask blocks and what it was before. -/
def cntStep (i : grid0.Coords) (X0 X1 : Vec F S1x8736x21 .f32) (P : Vec F S1x1 .f32) : FVec F S1x1 .f32 :=
  k0_pay3 (k0_pay8 X0) (k0_pay9 i) (k0_pay10 X1) P

/-- The body at its first point: the two running totals start over from zero. -/
theorem sound_first (c : Dev nD) (i : grid0.Coords) (hc : first i)
    (M0 : Memref sig .tc .vmem S1x8736x21 .f32) (h0 : M0.IsWhole) (M1 : Memref sig .tc .vmem S1x8736x21 .f32) (h1 : M1.IsWhole)
    (M2 : Memref sig .tc .vmem S1x8736x21 .f32) (h2 : M2.IsWhole) (M3 : Memref sig .tc .vmem S1x1 .f32) (h3 : M3.IsWhole)
    (M4 : Memref sig .tc .vmem S1x1 .f32) (h4 : M4.IsWhole)
    (X0 X1 X2 : S1x8736x21.Idx → Elt F .f32) (P3 P4 : S1x1.Idx → Elt F .f32) (K : PUnit → sProp 𝕄) :
    iprop((owns (c : Thread nD τ) M0 fullShare X0 ∗ owns (c : Thread nD τ) M1 fullShare X1
          ∗ owns (c : Thread nD τ) M2 fullShare X2 ∗ owns (c : Thread nD τ) M3 fullShare P3
          ∗ owns (c : Thread nD τ) M4 fullShare P4)
        ∗ (iprop(owns (c : Thread nD τ) M0 fullShare X0 ∗ owns (c : Thread nD τ) M1 fullShare X1
          ∗ owns (c : Thread nD τ) M2 fullShare X2 ∗ owns (c : Thread nD τ) M3 fullShare (numStep i X0 X1 X2 k0_pay4)
          ∗ owns (c : Thread nD τ) M4 fullShare (cntStep i X0 X1 k0_pay5)) -∗ K ⟨⟩))
      ⊢ wp frame (wpE (defs₀ (F := F)) Variants.none c none) Set.univ (cc0__body i M0 h0 M1 h1 M2 h2 M3 h3 M4 h4) K := by
  simp only [cc0__body_eq_skeleton]; unfold cc0__body_skel
  unfold owns
  iintro ⟨⟨⟨%f0, %hf0, H0⟩, ⟨%f1, %hf1, H1⟩, ⟨%f2, %hf2, H2⟩, ⟨%f3, %hf3, H3⟩, ⟨%f4, %hf4, H4⟩⟩, Hk⟩
  sl_exec (disch := sl_exact hc)
  sl_step
  iapply Hk
  have r0 : View.readAt (Elt F) M0.view (Rect.unit (s := S1x8736x21) ![0, 0, 0] S1x8736x21.size inb_S1x8736x21_S1x8736x21_0_0_0).toLoadRect f0 = X0 :=
    (View.readAt_full M0.view f0 _).trans hf0
  have r1 : View.readAt (Elt F) M1.view (Rect.unit (s := S1x8736x21) ![0, 0, 0] S1x8736x21.size inb_S1x8736x21_S1x8736x21_0_0_0).toLoadRect f1 = X1 :=
    (View.readAt_full M1.view f1 _).trans hf1
  have r2 : View.readAt (Elt F) M2.view (Rect.unit (s := S1x8736x21) ![0, 0, 0] S1x8736x21.size inb_S1x8736x21_S1x8736x21_0_0_0).toLoadRect f2 = X2 :=
    (View.readAt_full M2.view f2 _).trans hf2
  have r3 : View.readCov (Val := Elt F) M3.view [⟨Rect.unit (s := S1x1) ![0, 0] S1x1.size inb_S1x1_S1x1_0_0, k0_pay4 (F := F)⟩]
      (Rect.unit (s := S1x1) ![0, 0] S1x1.size inb_S1x1_S1x1_0_0).toLoadRect = k0_pay4 (F := F) :=
    View.readCov_full (Val := Elt F) M3.view inb_S1x1_S1x1_0_0 inb_S1x1_S1x1_0_0 (k0_pay4 (F := F)) []
  have r4 : View.readCov (Val := Elt F) M4.view [⟨Rect.unit (s := S1x1) ![0, 0] S1x1.size inb_S1x1_S1x1_0_0, k0_pay5 (F := F)⟩]
      (Rect.unit (s := S1x1) ![0, 0] S1x1.size inb_S1x1_S1x1_0_0).toLoadRect = k0_pay5 (F := F) :=
    View.readCov_full (Val := Elt F) M4.view inb_S1x1_S1x1_0_0 inb_S1x1_S1x1_0_0 (k0_pay5 (F := F)) []
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; swap; · iexact H3
    ipureintro
    rw [View.read_writes_full]
    sl_unfold_words
    rw [r0, r1, r2, r3]
    rfl
  · iexists _; isplitr; swap; · iexact H4
    ipureintro
    rw [View.read_writes_full]
    sl_unfold_words
    rw [r0, r1, r4]
    rfl

/-- The body at any later point: the two running totals go on from what they held. -/
theorem sound_later (c : Dev nD) (i : grid0.Coords) (hc : ¬first i)
    (M0 : Memref sig .tc .vmem S1x8736x21 .f32) (h0 : M0.IsWhole) (M1 : Memref sig .tc .vmem S1x8736x21 .f32) (h1 : M1.IsWhole)
    (M2 : Memref sig .tc .vmem S1x8736x21 .f32) (h2 : M2.IsWhole) (M3 : Memref sig .tc .vmem S1x1 .f32) (h3 : M3.IsWhole)
    (M4 : Memref sig .tc .vmem S1x1 .f32) (h4 : M4.IsWhole)
    (X0 X1 X2 : S1x8736x21.Idx → Elt F .f32) (P3 P4 : S1x1.Idx → Elt F .f32) (K : PUnit → sProp 𝕄) :
    iprop((owns (c : Thread nD τ) M0 fullShare X0 ∗ owns (c : Thread nD τ) M1 fullShare X1
          ∗ owns (c : Thread nD τ) M2 fullShare X2 ∗ owns (c : Thread nD τ) M3 fullShare P3
          ∗ owns (c : Thread nD τ) M4 fullShare P4)
        ∗ (iprop(owns (c : Thread nD τ) M0 fullShare X0 ∗ owns (c : Thread nD τ) M1 fullShare X1
          ∗ owns (c : Thread nD τ) M2 fullShare X2 ∗ owns (c : Thread nD τ) M3 fullShare (numStep i X0 X1 X2 P3)
          ∗ owns (c : Thread nD τ) M4 fullShare (cntStep i X0 X1 P4)) -∗ K ⟨⟩))
      ⊢ wp frame (wpE (defs₀ (F := F)) Variants.none c none) Set.univ (cc0__body i M0 h0 M1 h1 M2 h2 M3 h3 M4 h4) K := by
  simp only [cc0__body_eq_skeleton]; unfold cc0__body_skel
  unfold owns
  iintro ⟨⟨⟨%f0, %hf0, H0⟩, ⟨%f1, %hf1, H1⟩, ⟨%f2, %hf2, H2⟩, ⟨%f3, %hf3, H3⟩, ⟨%f4, %hf4, H4⟩⟩, Hk⟩
  sl_exec (disch := sl_exact hc)
  sl_step
  iapply Hk
  have r0 : View.readAt (Elt F) M0.view (Rect.unit (s := S1x8736x21) ![0, 0, 0] S1x8736x21.size inb_S1x8736x21_S1x8736x21_0_0_0).toLoadRect f0 = X0 :=
    (View.readAt_full M0.view f0 _).trans hf0
  have r1 : View.readAt (Elt F) M1.view (Rect.unit (s := S1x8736x21) ![0, 0, 0] S1x8736x21.size inb_S1x8736x21_S1x8736x21_0_0_0).toLoadRect f1 = X1 :=
    (View.readAt_full M1.view f1 _).trans hf1
  have r2 : View.readAt (Elt F) M2.view (Rect.unit (s := S1x8736x21) ![0, 0, 0] S1x8736x21.size inb_S1x8736x21_S1x8736x21_0_0_0).toLoadRect f2 = X2 :=
    (View.readAt_full M2.view f2 _).trans hf2
  have r3 : View.readAt (Elt F) M3.view (Rect.unit (s := S1x1) ![0, 0] S1x1.size inb_S1x1_S1x1_0_0).toLoadRect f3 = P3 :=
    (View.readAt_full M3.view f3 _).trans hf3
  have r4 : View.readAt (Elt F) M4.view (Rect.unit (s := S1x1) ![0, 0] S1x1.size inb_S1x1_S1x1_0_0).toLoadRect f4 = P4 :=
    (View.readAt_full M4.view f4 _).trans hf4
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; swap; · iexact H3
    ipureintro
    rw [View.read_writes_full]
    sl_unfold_words
    rw [r0, r1, r2, r3]
    rfl
  · iexists _; isplitr; swap; · iexact H4
    ipureintro
    rw [View.read_writes_full]
    sl_unfold_words
    rw [r0, r1, r4]
    rfl

/-- The first point is point 0. -/
theorem first_iff : ∀ t : Fin grid0.N, first (grid0.coords t) ↔ t.val = 0 := by decide +kernel

end Cert.KernelIdeal.Body

end
-- ==== Proof.Rows.lean ====
module

public import Idealize.ShloMosaic.Lib.Pointwise
public import Idealize.ShloMosaic.Lib.IdealHost

@[expose] public section

noncomputable section

/-! The loss's scalars, one box (a row of 21 class scores) at a time: what the kernel and the reference both sum. -/

namespace Cert.Rows

open Idealize.ShloMosaic

/-- The word both programs add to every score before the logarithm (1e-7 in binary32). -/
def eps : EReal := Ideal.ofBits .f32 0x33D6BF95#32

/-- The greatest of a row's twenty object classes. -/
def top (f : Fin 21 → EReal) : EReal :=
  (Finset.univ : Finset (Fin 20)).fold max (Ideal.ofBits .f32 0xFF800000#32) fun k => f ⟨1 + k.val, by omega⟩

/-- A row is an object's: some object class scores above the background class. -/
def obj (f : Fin 21 → EReal) : Prop := f 0 < top f

/-- Being an object's row can be decided, since extended reals are linearly ordered. -/
instance (f : Fin 21 → EReal) : Decidable (obj f) := inferInstanceAs (Decidable (f 0 < top f))

/-- The divergence of a row of scores from the interpolated one, as the logarithm of a quotient. -/
def klQuot (p q : Fin 21 → EReal) : EReal := ∑ l, (p l + eps) * Ideal.log (Ideal.div (p l + eps) (q l + eps))

/-- The divergence of a row of scores from the interpolated one, as a difference of logarithms. -/
def klDiff (p q : Fin 21 → EReal) : EReal := ∑ l, (p l + eps) * (Ideal.log (p l + eps) - Ideal.log (q l + eps))

/-- A row's weight: one where the left image sees an object and the right one does not. -/
def weight (p r : Fin 21 → EReal) : EReal := if obj p ∧ ¬obj r then 1 else 0

/-- The loss from its two totals: their quotient where the count is positive, else zero. -/
def loss (num cnt : EReal) : EReal :=
  if 0 < cnt then Ideal.div num (max cnt (Ideal.ofBits .f32 0x3F800000#32)) else 0

/-- The mask both programs make of a row, as a bit, selects by the weight. -/
theorem select_mask (A B C : Prop) [Decidable A] [Decidable B] [Decidable C] (x : EReal) :
    Scalar.select (IntOp.andi (IntOp.andi (BitVec.ofBool (decide A)) (IntOp.xori (BitVec.ofBool (decide B)) 1#1))
      (BitVec.ofBool (decide C))) x 0 = if C then (if A ∧ ¬B then x else 0) else 0 := by
  by_cases A <;> by_cases B <;> by_cases C <;> simp [*, Scalar.select, IntOp.andi, IntOp.xori]

/-- The mask as a number is the weight. -/
theorem count_mask (A B C : Prop) [Decidable A] [Decidable B] [Decidable C] :
    (FloatOps.sitofp (F := Ideal) .f32 (BitVec.setWidth 32 (IntOp.andi (IntOp.andi (BitVec.ofBool (decide A)) (IntOp.xori (BitVec.ofBool (decide B)) 1#1))
      (BitVec.ofBool (decide C)))) : EReal) = if C then (if A ∧ ¬B then 1 else 0) else 0 := by
  by_cases A <;> by_cases B <;> by_cases C <;> simp [*, IntOp.andi, IntOp.xori, FloatOps.sitofp]

/-- The guarded quotient, its guard a bit, is the loss. -/
theorem select_loss (a b : EReal) : Scalar.select (BitVec.ofBool (decide (Ideal.ofBits .f32 0x00000000#32 < b)))
    (Ideal.div a (max b (Ideal.ofBits .f32 0x3F800000#32))) (Ideal.ofBits .f32 0x00000000#32) = loss a b := by
  rw [Ideal.ofBits_zero_f32]
  unfold loss
  by_cases h : 0 < b <;> simp [h, Scalar.select]

/-- The reference's weight of a marked image's row, a product of two masks as numbers. -/
theorem mask_weight (p r : Fin 21 → EReal) :
    (FloatOps.uitofp (F := Ideal) .f32 (IntOp.andi (BitVec.ofBool (decide (obj p))) 1#1) : EReal)
      * (Ideal.ofBits .f32 0x3F800000#32 - FloatOps.uitofp (F := Ideal) .f32 (BitVec.ofBool (decide (obj r)))) = weight p r := by
  rw [Ideal.ofBits_one_f32]
  have h : (1 : EReal) - 1 = 0 := EReal.sub_self (EReal.coe_ne_top 1) (EReal.coe_ne_bot 1)
  unfold weight
  by_cases obj p <;> by_cases obj r <;> simp [*, IntOp.andi, FloatOps.uitofp]

/-- An image that isn't marked has weight zero. -/
theorem mask_zero (b : BitVec 1) (x : EReal) :
    (FloatOps.uitofp (F := Ideal) .f32 (IntOp.andi b 0#1) : EReal) * x = 0 := by
  simp [IntOp.andi, FloatOps.uitofp]

/-- What a weight multiplies, it keeps or drops. -/
theorem mul_weight (x : EReal) (p r : Fin 21 → EReal) : x * weight p r = if obj p ∧ ¬obj r then x else 0 := by
  unfold weight
  split <;> simp

/-- The kernel's test that a row of the padded block lies inside the array. -/
theorem row_mask : ∀ x : Fin 8736, IntOp.cmpi .slt (IntOp.addi (BitVec.ofNat 32 x.val) (Scalar.muli 0#32 8736#32)) 8732#32
    = BitVec.ofBool (decide (x.val < 8732)) := by
  decide +kernel

/-- A sum over the padded block's rows of what is zero past the array is the sum over the array's rows. -/
theorem sum_rows (f : Fin 8736 → EReal) :
    (∑ x : Fin 8736, if x.val < 8732 then f x else 0) = ∑ r : Fin 8732, f ⟨r.val, by omega⟩ := by
  rw [Fin.sum_univ_add (a := 8732) (b := 4)]
  have h : ∀ k : Fin 4, (if (Fin.natAdd 8732 k).val < 8732 then f (Fin.natAdd 8732 k) else 0) = 0 := fun k =>
    if_neg (by rw [Fin.val_natAdd]; omega)
  rw [Finset.sum_eq_zero fun k _ => h k, add_zero]
  exact Finset.sum_congr rfl fun r _ => if_pos r.isLt

end Cert.Rows

end
-- ==== Proof.IdealStep.lean ====
module

public import proofs.«01_k».proof.Proof.IdealBody
public import proofs.«01_k».proof.Proof.Rows

@[expose] public section

set_option maxRecDepth 16384

noncomputable section

/-! One point of the idealized kernel, as sums over the array's own rows. -/

namespace Cert.KernelIdeal.Body

open Cert.KernelIdeal Cert.KernelIdeal.Gen Cert.Rows
open Idealize.ShloMosaic

/-- Row `r` of a staged block, `r` inside the array. -/
abbrev rowOf (X : Vec Ideal S1x8736x21 .f32) (r : Fin 8732) : Fin 21 → EReal := fun l => X (ix3 0 ⟨r.val, by omega⟩ l)

/-- One point adds to the weighted sum the divergence of every row that counts; rows past the array's end add nothing. -/
theorem numStep_apply (i : grid0.Coords) (X0 X1 X2 : Vec Ideal S1x8736x21 .f32) (P : Vec Ideal S1x1 .f32) (j : S1x1.Idx) :
    numStep i X0 X1 X2 P j = P j + ∑ r : Fin 8732,
      if obj (rowOf X0 r) ∧ ¬obj (rowOf X1 r) then klQuot (rowOf X0 r) (rowOf X2 r) else (0 : EReal) := by
  unfold numStep
  pointwise [k0_pay2, k0_pay1, k0_pay7, k0_pay6, k0_pay8, k0_pay9, k0_pay10]
  refine congrArg (fun y : EReal => P j + y) ?_
  rw [← sum_rows fun x => if obj (fun l => X0 (ix3 0 x l)) ∧ ¬obj (fun l => X1 (ix3 0 x l))
    then klQuot (fun l => X0 (ix3 0 x l)) (fun l => X2 (ix3 0 x l)) else (0 : EReal)]
  refine Finset.sum_congr rfl fun x _ => ?_
  rw [Fin.sum_univ_one, row_mask, select_mask]
  rfl

/-- One point adds to the count the number of rows that count; rows past the array's end add nothing. -/
theorem cntStep_apply (i : grid0.Coords) (X0 X1 : Vec Ideal S1x8736x21 .f32) (P : Vec Ideal S1x1 .f32) (j : S1x1.Idx) :
    cntStep i X0 X1 P j = P j + ∑ r : Fin 8732, weight (rowOf X0 r) (rowOf X1 r) := by
  unfold cntStep
  pointwise [k0_pay3, k0_pay1, k0_pay6, k0_pay8, k0_pay9, k0_pay10]
  refine congrArg (fun y : EReal => P j + y) ?_
  rw [← sum_rows fun x => weight (fun l => X0 (ix3 0 x l)) (fun l => X1 (ix3 0 x l))]
  refine Finset.sum_congr rfl fun x _ => ?_
  rw [Fin.sum_univ_one, row_mask, count_mask]
  rfl

end Cert.KernelIdeal.Body

end
-- ==== Proof.IdealRun.lean ====
module

public import proofs.«01_k».proof.Proof.IdealStep
public import Idealize.ShloMosaic.Lib.Pipeline.ValueKit.Point
public import Idealize.ShloMosaic.Lib.Claim
public import Idealize.ShloMosaic.Lib.Pipeline.Quiescent

@[expose] public section

set_option maxRecDepth 16384

noncomputable section

/-! The idealized kernel's region: after each point the two accumulators hold the running totals over the images so far. -/

namespace Cert.KernelIdeal.Body

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- What a fetch moves: of the padded block, the rows inside the array. -/
theorem xsize_eq : ∀ t : Fin grid0.N, (win0 0).xsize (grid0.coords t) = ![1, 8732, 21]
    ∧ (win0 1).xsize (grid0.coords t) = ![1, 8732, 21] ∧ (win0 2).xsize (grid0.coords t) = ![1, 8732, 21] := by decide +kernel

/-- The block of a point starts at the image that the point numbers. -/
theorem index_eq : ∀ t : Fin grid0.N, (win0 0).index t = ![t.val, 0, 0]
    ∧ (win0 1).index t = ![t.val, 0, 0] ∧ (win0 2).index t = ![t.val, 0, 0] := by decide +kernel

/-- Box `r` of image `i` as the region finds it: the left scores, the right scores, the interpolated scores. -/
def left (c : Dev nD) (i : Fin 16) (r : Fin 8732) : Fin 21 → EReal := fun l => V m c main_v0 (ix3 i r l)
/-- The right row: the shuffled scores that the region was given. -/
def right (c : Dev nD) (i : Fin 16) (r : Fin 8732) : Fin 21 → EReal := fun l => V m c main_v1 (ix3 i r l)
/-- The interpolated row that the region was given. -/
def interp (c : Dev nD) (i : Fin 16) (r : Fin 8732) : Fin 21 → EReal := fun l => V m c main_v2 (ix3 i r l)

/-- The left window's transfer covers every row of the array. -/
theorem moved0 (t : Fin grid0.N) (r : Fin 8732) (l : Fin 21) :
    (win0 0).moved (grid0.coords t) (ix3 (0 : Fin 1) (⟨r.val, by omega⟩ : Fin 8736) l) = true :=
  ((win0 0).moved_iff _ _).mpr fun a => by
    rw [(xsize_eq t).1]
    fin_cases a
    · exact Nat.zero_lt_one
    · exact r.isLt
    · exact l.isLt

/-- Row `r` of window 0's staged block at point `t`, whatever its tail holds: that row of image `t` of the window's array. -/
theorem fill0 (c : Dev nD) (t : Fin grid0.N) (d) (r : Fin 8732) :
    rowOf ((win0 0).fill (grid0.coords t) d (iblk m c 0 t)) r
      = left m c ⟨t.val, t.isLt.trans_eq N_0⟩ r := by
  funext l
  unfold rowOf left Window.fill
  rw [dif_pos (moved0 t r l)]
  blk_ext [iblk, (index_eq t).1]

/-- The right window's transfer covers every row of the array. -/
theorem moved1 (t : Fin grid0.N) (r : Fin 8732) (l : Fin 21) :
    (win0 1).moved (grid0.coords t) (ix3 (0 : Fin 1) (⟨r.val, by omega⟩ : Fin 8736) l) = true :=
  ((win0 1).moved_iff _ _).mpr fun a => by
    rw [(xsize_eq t).2.1]
    fin_cases a
    · exact Nat.zero_lt_one
    · exact r.isLt
    · exact l.isLt

/-- Row `r` of window 1's staged block at point `t`, whatever its tail holds: that row of image `t` of the window's array. -/
theorem fill1 (c : Dev nD) (t : Fin grid0.N) (d) (r : Fin 8732) :
    rowOf ((win0 1).fill (grid0.coords t) d (iblk m c 1 t)) r
      = right m c ⟨t.val, t.isLt.trans_eq N_0⟩ r := by
  funext l
  unfold rowOf right Window.fill
  rw [dif_pos (moved1 t r l)]
  blk_ext [iblk, (index_eq t).2.1]

/-- The interpolated window's transfer covers every row of the array. -/
theorem moved2 (t : Fin grid0.N) (r : Fin 8732) (l : Fin 21) :
    (win0 2).moved (grid0.coords t) (ix3 (0 : Fin 1) (⟨r.val, by omega⟩ : Fin 8736) l) = true :=
  ((win0 2).moved_iff _ _).mpr fun a => by
    rw [(xsize_eq t).2.2]
    fin_cases a
    · exact Nat.zero_lt_one
    · exact r.isLt
    · exact l.isLt

/-- Row `r` of window 2's staged block at point `t`, whatever its tail holds: that row of image `t` of the window's array. -/
theorem fill2 (c : Dev nD) (t : Fin grid0.N) (d) (r : Fin 8732) :
    rowOf ((win0 2).fill (grid0.coords t) d (iblk m c 2 t)) r
      = interp m c ⟨t.val, t.isLt.trans_eq N_0⟩ r := by
  funext l
  unfold rowOf interp Window.fill
  rw [dif_pos (moved2 t r l)]
  blk_ext [iblk, (index_eq t).2.2]

/-- What image `i` adds to the weighted sum. -/
def numTerm (c : Dev nD) (i : Fin 16) : EReal := ∑ r : Fin 8732,
  if obj (left m c i r) ∧ ¬obj (right m c i r) then klQuot (left m c i r) (interp m c i r) else (0 : EReal)

/-- What image `i` adds to the count. -/
def cntTerm (c : Dev nD) (i : Fin 16) : EReal := ∑ r : Fin 8732, weight (left m c i r) (right m c i r)

/-- A running total over the first `n` images. -/
def upTo (f : Fin 16 → EReal) (n : ℕ) : EReal := ∑ k ∈ Finset.range n, if h : k < 16 then f ⟨k, h⟩ else 0

/-- One more term of a running total. -/
theorem upTo_succ (f : Fin 16 → EReal) (n : ℕ) (h : n < 16) : upTo f n + f ⟨n, h⟩ = upTo f (n + 1) := by
  unfold upTo; rw [Finset.sum_range_succ, dif_pos h]

/-- A running total starts at zero. -/
theorem upTo_zero (f : Fin 16 → EReal) : upTo f 0 = 0 := by unfold upTo; rw [Finset.sum_range_zero]

/-- A running total over all sixteen images is the sum over them. -/
theorem upTo_all (f : Fin 16 → EReal) : upTo f 16 = ∑ i : Fin 16, f i := by
  unfold upTo; rw [Finset.sum_range]
  exact Finset.sum_congr rfl fun k _ => dif_pos k.isLt

/-- An input window's staging buffer after the body: its block, and past the array's end a zero that nothing reads. -/
def held (c : Dev nD) (w : Fin cfg0.W) (z : Elt Ideal (cfg0.win w).elt) (t : Fin cfg0.N) :
    (cfg0.win w).block.Idx → Elt Ideal (cfg0.win w).elt :=
  (cfg0.win w).fill (cfg0.grid.coords t) (fun _ => z) (iblk m c w t)

/-- The proof data: the arrays as the region finds them; the input buffers at their blocks; the two totals at the sums
    over the images met so far. -/
def dats (_ : Fin 1) (c : Dev nD) : Dat τ (Elt Ideal) Unit ℕ (UR sig nD τ) ℕ cfg0 c where
  A w := V m c (Pipeline.arrRef spec0 w)
  after w t := match w with
    | ⟨0, _⟩ => held m c 0 (Scalar.ofBits (F := Ideal) .f32 0#32) t
    | ⟨1, _⟩ => held m c 1 (Scalar.ofBits (F := Ideal) .f32 0#32) t
    | ⟨2, _⟩ => held m c 2 (Scalar.ofBits (F := Ideal) .f32 0#32) t
    | ⟨3, _⟩ => fun _ => upTo (numTerm m c) (t.val + 1)
    | ⟨4, _⟩ => fun _ => upTo (cntTerm m c) (t.val + 1)
  Φ _ := Pipeline.ΦA spec0 c
  q _ := fullShare
  owed _ := 0

/-- A point's step takes the weighted sum's running total to the next one. -/
theorem num_step (c : Dev nD) (t : Fin grid0.N) (d0 d1 d2) (P : Vec Ideal S1x1 .f32) (hP : P = fun _ => upTo (numTerm m c) t.val) :
    numStep (grid0.coords t) ((win0 0).fill (grid0.coords t) d0 (iblk m c 0 t)) ((win0 1).fill (grid0.coords t) d1 (iblk m c 1 t))
      ((win0 2).fill (grid0.coords t) d2 (iblk m c 2 t)) P = fun _ => upTo (numTerm m c) (t.val + 1) := by
  funext j
  rw [numStep_apply, hP, ← upTo_succ _ _ (t.isLt.trans_eq N_0)]
  refine congrArg (fun y : EReal => upTo (numTerm m c) t.val + y) (Finset.sum_congr rfl fun r _ => ?_)
  rw [fill0, fill1, fill2]

/-- A point's step takes the count's running total to the next one. -/
theorem cnt_step (c : Dev nD) (t : Fin grid0.N) (d0 d1) (P : Vec Ideal S1x1 .f32) (hP : P = fun _ => upTo (cntTerm m c) t.val) :
    cntStep (grid0.coords t) ((win0 0).fill (grid0.coords t) d0 (iblk m c 0 t)) ((win0 1).fill (grid0.coords t) d1 (iblk m c 1 t)) P
      = fun _ => upTo (cntTerm m c) (t.val + 1) := by
  funext j
  rw [cntStep_apply, hP, ← upTo_succ _ _ (t.isLt.trans_eq N_0)]
  refine congrArg (fun y : EReal => upTo (cntTerm m c) t.val + y) (Finset.sum_congr rfl fun r _ => ?_)
  rw [fill0, fill1]

/-- The first point starts the weighted sum at the running total of no image. -/
theorem start3 (c : Dev nD) (t : Fin grid0.N) (h : t.val = 0) : (k0_pay4 (F := Ideal)) = fun _ => upTo (numTerm m c) t.val := by
  rw [h, upTo_zero]; exact funext fun _ => Ideal.ofBits_zero_f32

/-- The first point starts the count at the running total of no image. -/
theorem start4 (c : Dev nD) (t : Fin grid0.N) (h : t.val = 0) : (k0_pay5 (F := Ideal)) = fun _ => upTo (cntTerm m c) t.val := by
  rw [h, upTo_zero]; exact funext fun _ => Ideal.ofBits_zero_f32

/-- What the left window holds before a point. -/
theorem before_0 (c : Dev nD) (t : Fin cfg0.N) (d) :
    (dats m 0 c).before (0 : Fin 5) t d = (cfg0.win 0).fill (cfg0.grid.coords t) d (iblk m c 0 t) := by
  rw [Dat.before_fetched _ _ _ (fetch0_0 t)]; rfl
/-- What the right window holds before a point. -/
theorem before_1 (c : Dev nD) (t : Fin cfg0.N) (d) :
    (dats m 0 c).before (1 : Fin 5) t d = (cfg0.win 1).fill (cfg0.grid.coords t) d (iblk m c 1 t) := by
  rw [Dat.before_fetched _ _ _ (fetch0_1 t)]; rfl
/-- What the interpolated window holds before a point. -/
theorem before_2 (c : Dev nD) (t : Fin cfg0.N) (d) :
    (dats m 0 c).before (2 : Fin 5) t d = (cfg0.win 2).fill (cfg0.grid.coords t) d (iblk m c 2 t) := by
  rw [Dat.before_fetched _ _ _ (fetch0_2 t)]; rfl

/-- A point after the first finds the weighted sum at the total over the images before it. -/
theorem before_3 (c : Dev nD) (t : Fin cfg0.N) (ht : t.val ≠ 0) (d) :
    (dats m 0 c).before (3 : Fin 5) t d = fun _ => upTo (numTerm m c) t.val := by
  have hN : t.val < 16 := t.isLt.trans_eq N_0
  rw [Dat.before_out_kept _ (3 : Fin 5) rfl t ht (Bool.eq_false_iff.mpr fun h => by
    have := (flush0_3 _).mp h; dsimp only at this; omega) (fun _ => rfl) (fun _ _ => rfl)]
  have e : t.val - 1 + 1 = t.val := by omega
  show (fun _ => upTo (numTerm m c) (t.val - 1 + 1)) = _
  rw [e]

/-- A point after the first finds the count at the total over the images before it. -/
theorem before_4 (c : Dev nD) (t : Fin cfg0.N) (ht : t.val ≠ 0) (d) :
    (dats m 0 c).before (4 : Fin 5) t d = fun _ => upTo (cntTerm m c) t.val := by
  have hN : t.val < 16 := t.isLt.trans_eq N_0
  rw [Dat.before_out_kept _ (4 : Fin 5) rfl t ht (Bool.eq_false_iff.mpr fun h => by
    have := (flush0_4 _).mp h; dsimp only at this; omega) (fun _ => rfl) (fun _ _ => rfl)]
  have e : t.val - 1 + 1 = t.val := by omega
  show (fun _ => upTo (cntTerm m c) (t.val - 1 + 1)) = _
  rw [e]

/-- A point's call runs the body at the point's own slots. -/
theorem defs₀_row (t : Fin cfg0.N) : defs₀ (F := Ideal) .tc cfg0.body (cfg0.bodyArgs t (cfg0.slots t)) = bodyAt0 t := by
  unfold defs₀; rw [Defs.onTc_tc]

/-- The loose ending of an input window: its buffer still carries its block. -/
theorem kept (c : Dev nD) (w : Fin cfg0.W) (z) (t : Fin cfg0.N) (d : (cfg0.win w).block.Idx → Elt Ideal (cfg0.win w).elt) :
    (cfg0.win w).fill (cfg0.grid.coords t) d ((cfg0.win w).cut (cfg0.grid.coords t) (held m c w z t))
      = (cfg0.win w).fill (cfg0.grid.coords t) d (iblk m c w t) := by
  unfold held; rw [Window.cut_fill]

/-- One grid point: from the staged blocks and the totals so far, the body leaves the totals with this image added. -/
theorem body_obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%P3, H3⟩, ⟨%P4, H4⟩⟩
  rw [before_0, before_1, before_2]
  unfold bodyAt0
  by_cases hc : first (grid0.coords t)
  · have ht : t.val = 0 := (first_iff t).mp hc
    iapply (sound_first c (grid0.coords t) hc _ _ _ _ _ _ _ _ _ _ _ _ _ _ _ _)
    isplitl [H0 H1 H2 H3 H4]
    · isplitl [H0]; · iexact H0
      isplitl [H1]; · iexact H1
      isplitl [H2]; · iexact H2
      isplitl [H3]; · iexact H3
      iexact H4
    · iintro ⟨H0, H1, H2, H3, H4⟩
      isplitl [HΦ]; · iexact HΦ
      isplitl [Ho]; · iexact Ho
      isplitl [H0]
      · iexists d0; rw [← kept m c 0 (Scalar.ofBits (F := Ideal) .f32 0#32) t d0]; iexact H0
      isplitl [H1]
      · iexists d1; rw [← kept m c 1 (Scalar.ofBits (F := Ideal) .f32 0#32) t d1]; iexact H1
      isplitl [H2]
      · iexists d2; rw [← kept m c 2 (Scalar.ofBits (F := Ideal) .f32 0#32) t d2]; iexact H2
      isplitl [H3]
      · rw [show (dats m 0 c).after 3 t = _ from (num_step m c t d0 d1 d2 _ (start3 m c t ht)).symm]; iexact H3
      · rw [show (dats m 0 c).after 4 t = _ from (cnt_step m c t d0 d1 _ (start4 m c t ht)).symm]; iexact H4
  · have ht : t.val ≠ 0 := fun h => hc ((first_iff t).mpr h)
    rw [before_3 m c t ht, before_4 m c t ht]
    iapply (sound_later c (grid0.coords t) hc _ _ _ _ _ _ _ _ _ _ _ _ _ _ _ _)
    isplitl [H0 H1 H2 H3 H4]
    · isplitl [H0]; · iexact H0
      isplitl [H1]; · iexact H1
      isplitl [H2]; · iexact H2
      isplitl [H3]; · iexact H3
      iexact H4
    · iintro ⟨H0, H1, H2, H3, H4⟩
      isplitl [HΦ]; · iexact HΦ
      isplitl [Ho]; · iexact Ho
      isplitl [H0]
      · iexists d0; rw [← kept m c 0 (Scalar.ofBits (F := Ideal) .f32 0#32) t d0]; iexact H0
      isplitl [H1]
      · iexists d1; rw [← kept m c 1 (Scalar.ofBits (F := Ideal) .f32 0#32) t d1]; iexact H1
      isplitl [H2]
      · iexists d2; rw [← kept m c 2 (Scalar.ofBits (F := Ideal) .f32 0#32) t d2]; iexact H2
      isplitl [H3]
      · rw [show (dats m 0 c).after 3 t = _ from (num_step m c t d0 d1 d2 _ rfl).symm]; iexact H3
      · rw [show (dats m 0 c).after 4 t = _ from (cnt_step m c t d0 d1 _ rfl).symm]; iexact H4

set_option backward.isDefEq.respectTransparency.types false in
/-- The idealized kernel's run, its arrays and the buffers the later lines write named. -/
theorem run_main : θ_run defs (onTc (τ := τ) (main (F := Ideal))) (s₀ m ρ) (fun r =>
    Pipeline.FramePost cfgs (dats m) 0 (Pipeline.afterTail₀ cfgs (dats m) 0 (V0 m) [hostOps1, hostOps1_1, hostOps1_2]) r
      ∧ r.2.sem = fun _ => 0) :=
  Pipeline.θ_run_frame_around cfgs (dats m) (0 : Fin 1) launch0 (defs₀ (F := Ideal)) Variants.none m ρ main
    (fun c => body_obligation m c) (fun c w => by fin_cases w <;> rfl) (fun _ _ => rfl) (V0 m)
    [hostOps1, hostOps1_1, hostOps1_2] sfx_sub sfx_fresh sfx_keeps (hmain m Variants.none)
    (fun _ _ => rfl) (fun _ _ => rfl) _ (fun _ h => h)

end Cert.KernelIdeal.Body

end
-- ==== Proof.IdealTail.lean ====
module

public import proofs.«01_k».proof.Proof.IdealRun
public import Idealize.ShloMosaic.Lib.StableHlo.RunRead

@[expose] public section

set_option maxRecDepth 16384

noncomputable section

/-! The lines after the region: the loss from the two totals. -/

namespace Cert.KernelIdeal.Body

open Cert.KernelIdeal Cert.KernelIdeal.Gen Cert.Rows
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The weighted sum's array after the run: the total over the sixteen images. -/
theorem arr3 (c : Dev nD) : (dats m 0 c).arrAt 3 cfg0.N = fun _ => ∑ i, numTerm m c i := by
  refine (dats m 0 c).arrAt_eq_of_covers 3 _ (by decide +kernel) fun t hf y => ?_
  have ht : t.val = 15 := by have := (flush0_3 t).mp hf; have := t.isLt.trans_eq N_0; omega
  show upTo (numTerm m c) (t.val + 1) = _
  rw [ht, upTo_all]

/-- The count's array after the run: the total over the sixteen images. -/
theorem arr4 (c : Dev nD) : (dats m 0 c).arrAt 4 cfg0.N = fun _ => ∑ i, cntTerm m c i := by
  refine (dats m 0 c).arrAt_eq_of_covers 4 _ (by decide +kernel) fun t hf y => ?_
  have ht : t.val = 15 := by have := (flush0_4 t).mp hf; have := t.isLt.trans_eq N_0; omega
  show upTo (cntTerm m c) (t.val + 1) = _
  rw [ht, upTo_all]

/-- The first result's buffer after the lines that follow the region: the loss from the two totals. -/
theorem tail_v9 (c : Dev nD) : Pipeline.afterTail₀ cfgs (dats m) 0 (V0 m) [hostOps1, hostOps1_1, hostOps1_2] c main_v9
    = fun _ => loss (∑ i, numTerm m c i) (∑ i, cntTerm m c i) := by
  unfold Pipeline.afterTail₀
  have h3 := Pipeline.withArrays_arr spec0 launch0.win.arr_inj c (V0 m c) (fun w => (dats m 0 c).arrAt w cfg0.N) 3
  have h4 := Pipeline.withArrays_arr spec0 launch0.win.arr_inj c (V0 m c) (fun w => (dats m 0 c).arrAt w cfg0.N) 4
  simp only [arr3] at h3
  simp only [arr4] at h4
  generalize (Pipeline.withArrays (cfgs 0).spec c (V0 m c) fun w => (dats m 0 c).arrAt w (cfgs 0).N) = σ at h3 h4 ⊢
  simp only [hostOps1, hostOps1_1, hostOps1_2, List.flatten_cons, List.flatten_nil, List.append_nil, List.cons_append, List.nil_append, TRef.ternary, TRef.toBuf, TRef.ofBuf, cast_eq]
  after_results_simp
  rw [show σ (Proc.tc.devRef main_v3_0) = _ from h3, show σ (Proc.tc.devRef main_v3_1) = _ from h4]
  generalize (∑ i, numTerm m c i) = a
  generalize (∑ i, cntTerm m c i) = b
  funext j
  exact select_loss a b

end Cert.KernelIdeal.Body

end
-- ==== Proof.IdealOutcome.lean ====
module

public import proofs.«01_k».proof.Proof.IdealTail
public import Idealize.ShloMosaic.Lib.Claim

@[expose] public section

set_option maxRecDepth 16384

noncomputable section

/-! What the idealized kernel leaves: its two results, from the arguments' own elements, and its arguments unchanged. -/

namespace Cert.KernelIdeal.Body

open Cert.KernelIdeal Cert.KernelIdeal.Gen Cert.Rows
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The left row of image `i` is the scores' own row. -/
theorem left_eq (c : Dev nD) (i : Fin 16) (r : Fin 8732) :
    left m c i r = fun l => m ((c.tc : Thread nD τ).loc main_arg2) (ix3 ⟨i.val, by omega⟩ r l) := by
  unfold left
  funext l
  show StableHlo.after hostOps0 (fun b => m (c, b)) _ _ = _
  simp only [hostOps0]
  after_results_simp
  pointwise

/-- The right row of image `i` is the shuffled scores' row of the other half. -/
theorem right_eq (c : Dev nD) (i : Fin 16) (r : Fin 8732) :
    right m c i r = fun l => m ((c.tc : Thread nD τ).loc main_arg6) (ix3 ⟨16 + i.val, by omega⟩ r l) := by
  unfold right
  funext l
  show StableHlo.after hostOps0 (fun b => m (c, b)) _ _ = _
  simp only [hostOps0]
  after_results_simp
  pointwise

/-- The interpolated row of image `i` is the interpolated scores' own row. -/
theorem interp_eq (c : Dev nD) (i : Fin 16) (r : Fin 8732) :
    interp m c i r = fun l => m ((c.tc : Thread nD τ).loc main_arg7) (ix3 ⟨i.val, by omega⟩ r l) := by
  unfold interp
  funext l
  show StableHlo.after hostOps0 (fun b => m (c, b)) _ _ = _
  simp only [hostOps0]
  after_results_simp
  pointwise

/-- The constant result's buffer after the lines that follow the region: zero. -/
theorem tail_v10 (c : Dev nD) : Pipeline.afterTail₀ cfgs (dats m) 0 (V0 m) [hostOps1, hostOps1_1, hostOps1_2] c main_v10
    = broadcastInDim S1 ![] bcast_S_S1 (constant (F := Ideal) S_ .f32 0x00000000#32) := by
  unfold Pipeline.afterTail₀
  generalize (Pipeline.withArrays (cfgs 0).spec c (V0 m c) fun w => (dats m 0 c).arrAt w (cfgs 0).N) = σ
  simp only [hostOps1, hostOps1_1, hostOps1_2, List.flatten_cons, List.flatten_nil, List.append_nil, List.cons_append, List.nil_append, TRef.ternary, TRef.toBuf, TRef.ofBuf, cast_eq]
  after_results_simp

/-- The idealized kernel, run from any memory, ends with its two results named, its arguments as launched and its
    counters at zero. -/
theorem ideal_run : θ_run defs (onTc (τ := τ) (main (F := Ideal))) ⟨m, fun _ => 0, ρ⟩ (fun r => (∀ c : Dev nD,
      r.2.mem ((c.tc : Thread nD τ).loc main_v10) = broadcastInDim S1 ![] bcast_S_S1 (constant (F := Ideal) S_ .f32 0x00000000#32)
      ∧ r.2.mem ((c.tc : Thread nD τ).loc main_v9) = (fun _ => loss (∑ i, numTerm m c i) (∑ i, cntTerm m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ hs => ⟨fun c =>
      have h := hs.1
      ⟨((h c).2 main_v10 (Pipeline.mem_restRefs_of main_v10 (by decide) (by decide))).trans (tail_v10 m c),
        ((h c).2 main_v9 (Pipeline.mem_restRefs_of main_v9 (by decide) (by decide))).trans (tail_v9 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c),
        ((h c).2 main_arg6 (Pipeline.mem_restRefs_of main_arg6 (by decide) (by decide))).trans (W_main_arg6 m (dats m) c),
        ((h c).2 main_arg7 (Pipeline.mem_restRefs_of main_arg7 (by decide) (by decide))).trans (W_main_arg7 m (dats m) c),
        ((h c).2 main_arg8 (Pipeline.mem_restRefs_of main_arg8 (by decide) (by decide))).trans (W_main_arg8 m (dats m) c),
        ((h c).2 main_arg9 (Pipeline.mem_restRefs_of main_arg9 (by decide) (by decide))).trans (W_main_arg9 m (dats m) c),
        ((h c).2 main_arg10 (Pipeline.mem_restRefs_of main_arg10 (by decide) (by decide))).trans (W_main_arg10 m (dats m) c)⟩, hs.2⟩) (run_main m ρ)

end Cert.KernelIdeal.Body

end
-- ==== Proof.LogRatio.lean ====
module

public import proofs.«01_k».proof.Proof.Rows

@[expose] public section

noncomputable section

/-! The logarithm of a quotient against the difference of the logarithms, over the extended reals. -/

namespace Cert.Rows

open Idealize.ShloMosaic

/-- The logarithm of a real that isn't positive is the least extended real. -/
theorem log_nonpos (x : ℝ) (h : x ≤ 0) : Ideal.log (x : EReal) = ⊥ := if_pos h

/-- The logarithm of a positive real is the real logarithm. -/
theorem log_pos (x : ℝ) (h : 0 < x) : Ideal.log (x : EReal) = (Real.log x : EReal) := if_neg (not_le.mpr h)

/-- The logarithm of zero is the least extended real. -/
theorem log_zero : Ideal.log 0 = ⊥ := log_nonpos 0 le_rfl

/-- The logarithm of the greatest extended real is itself. -/
theorem log_top : Ideal.log ⊤ = ⊤ := rfl

/-- The logarithm of the least extended real is itself. -/
theorem log_bot : Ideal.log ⊥ = ⊥ := rfl

/-- The logarithm of a quotient is the difference of the logarithms, whatever the numerator, once the denominator isn't
    negative. -/
theorem log_quot (t d : EReal) (hd : 0 ≤ d) : Ideal.log (Ideal.div t d) = Ideal.log t - Ideal.log d := by
  rcases eq_or_ne d 0 with rfl | h0
  · rw [Ideal.div, if_pos rfl, log_zero]
    induction t with
    | bot => rw [if_neg (by simp), log_bot, sub_eq_add_neg, EReal.bot_add]
    | top => rw [if_pos (by simp), log_top]; rfl
    | coe x =>
      by_cases hx : 0 < x
      · rw [if_pos (by exact_mod_cast hx), log_top, log_pos x hx]; rfl
      · rw [if_neg (by exact_mod_cast hx), log_bot, log_nonpos x (not_lt.mp hx), sub_eq_add_neg, EReal.bot_add]
  rw [Ideal.div, if_neg h0]
  induction d with
  | bot => exact absurd hd (by simp)
  | top =>
    rw [EReal.inv_top, mul_zero, log_zero, log_top, sub_eq_add_neg, EReal.neg_top, EReal.add_bot]
  | coe y =>
    have hy : 0 < y := lt_of_le_of_ne (by exact_mod_cast hd) fun e => h0 (by rw [← e]; rfl)
    have hi : 0 < y⁻¹ := inv_pos.mpr hy
    rw [← EReal.coe_inv, log_pos y hy]
    induction t with
    | bot => rw [EReal.bot_mul_coe_of_pos hi, log_bot, sub_eq_add_neg, EReal.bot_add]
    | top => rw [EReal.top_mul_coe_of_pos hi, log_top, EReal.top_sub_coe]
    | coe x =>
      rw [← EReal.coe_mul]
      by_cases hx : 0 < x
      · rw [log_pos _ (mul_pos hx hi), log_pos x hx, Real.log_mul hx.ne' hi.ne', Real.log_inv, ← sub_eq_add_neg, EReal.coe_sub]
      · rw [log_nonpos _ (mul_nonpos_of_nonpos_of_nonneg (not_lt.mp hx) hi.le), log_nonpos x (not_lt.mp hx), sub_eq_add_neg,
          EReal.bot_add]

/-- The two forms of a row's divergence agree when no shifted interpolated score is negative. -/
theorem klQuot_eq (p q : Fin 21 → EReal) (h : ∀ l, 0 ≤ q l + eps) : klQuot p q = klDiff p q :=
  Finset.sum_congr rfl fun l _ => congrArg (fun y : EReal => (p l + eps) * y) (log_quot _ _ (h l))

end Cert.Rows

end
-- ==== Proof.RefValue.lean ====
module

public import proofs.«01_k».proof.Proof.Rows
public import proofs.«01_k».proof.Proof.Gen.ReferenceIdeal.Read
public import Idealize.ShloMosaic.Lib.Routing.OpsSet
public import Idealize.ShloMosaic.Lib.Routing.OpsPair
public import Idealize.ShloMosaic.Lib.IdealHost

@[expose] public section

set_option maxRecDepth 16384

noncomputable section

/-! The reference's loss, from the arguments' own elements, for a list that names exactly the first half's images. -/

namespace Cert.ReferenceIdeal.Body

open Cert.ReferenceIdeal Cert.ReferenceIdeal.Gen Cert.ReferenceIdeal.Read Cert.Rows
open Idealize.ShloMosaic Idealize.ShloMosaic.Routing

variable (x2 x6 x7 : (⟨S32x8732x21, .f32⟩ : BufTy).Contents (Elt Ideal)) (x10 : (⟨S16, .i32⟩ : BufTy).Contents (Elt Ideal))

/-- The row of an array of scores at image `i` and box `r`. -/
def row (x : (⟨S32x8732x21, .f32⟩ : BufTy).Contents (Elt Ideal)) (i : Fin 32) (r : Fin 8732) : Fin 21 → EReal :=
  fun l => x (ix3 i r l)

/-- The greatest object class of a row, as the reference reduces it. -/
theorem top_row (y : (⟨S32x8732x21, .f32⟩ : BufTy).Contents (Elt Ideal)) (i : Fin 32) (r : Fin 8732) :
    val_main_v4 (F := Ideal) y (ix2 i r) = top (row y i r) := by
  unfold val_main_v4
  rw [Host.reduce_eq_fold_single FloatOps.maximumf _ _ _ (by decide) _]
  refine Finset.fold_congr fun k _ => ?_
  rw [Function.comp_apply, val_main_v3_apply]
  refine congrArg y (funext fun a => Fin.ext ?_)
  match a with
  | ⟨0, _⟩ => rfl
  | ⟨1, _⟩ => rfl
  | ⟨2, _⟩ => rfl

/-- The background class of a row, as the reference reads it. -/
theorem back_row (y : (⟨S32x8732x21, .f32⟩ : BufTy).Contents (Elt Ideal)) (i : Fin 32) (r : Fin 8732) :
    val_main_v6 (F := Ideal) y (ix2 i r) = row y i r 0 := by
  rw [val_main_v6_apply, val_main_v5_apply]
  refine congrArg y (funext fun a => Fin.ext ?_)
  have hr := r.isLt
  match a with
  | ⟨0, _⟩ => show (i.val * 8732 + r.val) / 8732 = i.val; omega
  | ⟨1, _⟩ => show (i.val * 8732 + r.val) / 1 % 8732 = r.val; omega
  | ⟨2, _⟩ => rfl

/-- The left mask's bit says that the row is an object's. -/
theorem left_bit (i : Fin 32) (r : Fin 8732) :
    val_main_v7 (F := Ideal) x2 (ix2 i r) = BitVec.ofBool (decide (obj (row x2 i r))) := by
  rw [val_main_v7_apply, top_row, back_row]
  rfl

/-- The shuffled scores with their halves exchanged, on the first half: the other half's. -/
theorem swapped (i : Fin 16) (r : Fin 8732) :
    row (val_main_v2 (F := Ideal) x6) (Fin.castAdd 16 i) r = row x6 (Fin.natAdd 16 i) r := by
  funext l
  unfold row val_main_v2
  pointwise
  refine (dif_pos (show (Fin.castAdd 16 i).val < 16 from i.isLt)).trans ?_
  rw [val_main_v0_apply]
  exact congrArg x6 (eq_ix3 _)

/-- The right mask's bit, on the first half, says that the other half's row is an object's. -/
theorem right_bit (i : Fin 16) (r : Fin 8732) :
    val_main_v24 (F := Ideal) x6 (ix2 (Fin.castAdd 16 i) r) = BitVec.ofBool (decide (obj (row x6 (Fin.natAdd 16 i) r))) := by
  rw [show val_main_v24 (F := Ideal) x6 = val_main_v7 (F := Ideal) (val_main_v2 (F := Ideal) x6) from rfl, left_bit, swapped]

/-- The list's mask doesn't depend on the box. -/
theorem list_bit (i : Fin 32) (r : Fin 8732) :
    val_main_v18 (F := Ideal) x10 (ix2 i r) = val_main_v16 (F := Ideal) x10 (ix1 i) := by
  unfold val_main_v18 val_main_v17
  generalize val_main_v16 (F := Ideal) x10 = y
  pointwise

/-- A row's divergence in the reference. -/
theorem row_kl (i : Fin 32) (r : Fin 8732) :
    val_main_v38 (F := Ideal) x2 x7 (ix2 i r) = klDiff (row x2 i r) (row x7 i r) := by
  rw [val_main_v38_apply, val_main_cst_7_apply, show (FloatOps.ofBits (F := Ideal) .f32 0x00000000#32 : EReal) = 0 from Ideal.ofBits_zero_f32, zero_add]
  refine Finset.sum_congr rfl fun l _ => ?_
  rw [show idx_main_v38 (ix2 i r) l = ix3 i r l from eq_ix3 _]
  rw [val_main_v37_apply, val_main_v36_apply, val_main_v35_apply, val_main_v34_apply, val_main_v33_apply, val_main_v31_apply,
    val_main_v30_apply, val_main_v32_apply]
  rfl

/-- The list names exactly the first half's images: each of them has an entry (a negative one counted from the end). -/
def Listed : Prop := ∀ k : Fin 16, ∃ j : Fin 16, val_main_v13 (F := Ideal) x10 (ix1 j) = BitVec.ofNat 32 k.val

/-- An image's mark is written by the entries that equal it. -/
theorem lands (j : S16.Idx) (i : Fin 32) :
    scatter_S32_S16x1_S16_n_0_0_1.resultIdx? j (val_main_v14 (F := Ideal) x10) = some (ix1 i)
      ↔ (val_main_v13 (F := Ideal) x10 j).toInt = (i.val : Int) := by
  obtain ⟨k, rfl⟩ : ∃ k, j = ix1 k := ⟨j 0, eq_ix1 j⟩
  refine (resultIdx?_ix1 (N := 32) scatter_S32_S16x1_S16_n_0_0_1 (ix1 k) _ i).trans ?_
  have hs : scatter_S32_S16x1_S16_n_0_0_1.start (ix1 k) (val_main_v14 (F := Ideal) x10) 0
      = (val_main_v13 (F := Ideal) x10 (ix1 k)).toInt := by
    unfold ScatterDims.start
    rw [dif_pos (by decide), val_main_v14_apply]
    refine congrArg (fun j => (val_main_v13 (F := Ideal) x10 j).toInt) (funext fun a => ?_)
    match a with
    | ⟨0, _⟩ => rfl
  have hw : scatter_S32_S16x1_S16_n_0_0_1.window (ix1 k) 0 = 0 := rfl
  rw [hs, hw, Nat.cast_zero, add_zero]

/-- A small index as a word names itself. -/
theorem word_toInt : ∀ i : Fin 16, (BitVec.ofNat 32 i.val).toInt = (i.val : Int) := by decide

/-- Small indices with equal words are equal. -/
theorem word_inj : ∀ a b : Fin 16, BitVec.ofNat 32 a.val = BitVec.ofNat 32 b.val → a = b := by decide

/-- An image of the first half is marked. -/
theorem marked (h : Listed x10) (i : Fin 16) : val_main_v16 (F := Ideal) x10 (ix1 (Fin.castAdd 16 i)) = 1#1 := by
  obtain ⟨j, hj⟩ := h i
  refine scatter_set_hit _ _ _ _ _ 1#1 (fun _ _ => rfl) (ix1 j) ((lands x10 _ _).mpr ?_)
  rw [hj, word_toInt]
  rfl

/-- An image of the second half isn't marked: the sixteen entries are used up by the first half's. -/
theorem unmarked (h : Listed x10) (i : Fin 16) : val_main_v16 (F := Ideal) x10 (ix1 (Fin.natAdd 16 i)) = 0#1 := by
  refine (scatter_set_miss _ _ _ _ _ fun j hj => ?_).trans rfl
  have hj := (lands x10 _ _).mp hj
  choose f hf using h
  have inj : Function.Injective f := fun a b e => by
    exact word_inj a b <| (hf a).symm.trans ((congrArg (fun k => val_main_v13 (F := Ideal) x10 (ix1 k)) e).trans (hf b))
  obtain ⟨k, hk⟩ := Finite.injective_iff_surjective.mp inj (j 0)
  rw [eq_ix1 j, ← hk, hf k, word_toInt, Fin.val_natAdd] at hj
  omega

/-- The reference's weight of a row of the first half. -/
theorem weight_first (h : Listed x10) (i : Fin 16) (r : Fin 8732) :
    val_main_v29 (F := Ideal) x2 x6 x10 (ix2 (Fin.castAdd 16 i) r)
      = weight (row x2 (Fin.castAdd 16 i) r) (row x6 (Fin.natAdd 16 i) r) := by
  rw [val_main_v29_apply, val_main_v25_apply, val_main_v19_apply, left_bit, list_bit, marked x10 h, val_main_v28_apply,
    val_main_v26_apply, right_bit, val_main_v27_apply, val_main_cst_4_apply]
  exact mask_weight _ _

/-- The reference's weight of a row of the second half is zero. -/
theorem weight_second (h : Listed x10) (i : Fin 16) (r : Fin 8732) :
    val_main_v29 (F := Ideal) x2 x6 x10 (ix2 (Fin.natAdd 16 i) r) = 0 := by
  rw [val_main_v29_apply, val_main_v25_apply, val_main_v19_apply, list_bit, unmarked x10 h]
  exact mask_zero _ _

/-- A sum over all boxes of all images, of what is zero on the second half, is the sum over the first half's boxes. -/
theorem sum_first (f : S32x8732.Idx → EReal) (h : ∀ (i : Fin 16) (r : Fin 8732), f (ix2 (Fin.natAdd 16 i) r) = 0) :
    ∑ j, f j = ∑ i : Fin 16, ∑ r : Fin 8732, f (ix2 (Fin.castAdd 16 i) r) := by
  refine (sum_idx2 (n0 := 32) (n1 := 8732) f).trans ?_
  rw [Fin.sum_univ_add (a := 16) (b := 16)]
  rw [Finset.sum_eq_zero (s := (Finset.univ : Finset (Fin 16))) (f := fun i => ∑ r : Fin 8732, f (ix2 (Fin.natAdd 16 i) r))
    fun i _ => Finset.sum_eq_zero fun r _ => h i r, add_zero]

/-- The reference's count: the weights of the first half's rows. -/
theorem count_eq (h : Listed x10) (j : S_.Idx) : val_main_v39 (F := Ideal) x2 x6 x10 j
    = ∑ i : Fin 16, ∑ r : Fin 8732, weight (row x2 (Fin.castAdd 16 i) r) (row x6 (Fin.natAdd 16 i) r) := by
  rw [val_main_v39_apply, val_main_cst_8_apply,
    show (FloatOps.ofBits (F := Ideal) .f32 0x00000000#32 : EReal) = 0 from Ideal.ofBits_zero_f32, zero_add,
    sum_first _ fun i r => weight_second x2 x6 x10 h i r]
  exact Finset.sum_congr rfl fun i _ => Finset.sum_congr rfl fun r _ => weight_first x2 x6 x10 h i r

/-- The reference's weighted sum: the divergences of the first half's rows that count. -/
theorem total_eq (h : Listed x10) (j : S_.Idx) : val_main_v42 (F := Ideal) x2 x6 x7 x10 j
    = ∑ i : Fin 16, ∑ r : Fin 8732, if obj (row x2 (Fin.castAdd 16 i) r) ∧ ¬obj (row x6 (Fin.natAdd 16 i) r)
        then klDiff (row x2 (Fin.castAdd 16 i) r) (row x7 (Fin.castAdd 16 i) r) else 0 := by
  rw [val_main_v42_apply, val_main_cst_10_apply,
    show (FloatOps.ofBits (F := Ideal) .f32 0x00000000#32 : EReal) = 0 from Ideal.ofBits_zero_f32, zero_add,
    sum_first _ fun i r => by rw [val_main_v41_apply, weight_second x2 x6 x10 h]; exact mul_zero _]
  refine Finset.sum_congr rfl fun i _ => Finset.sum_congr rfl fun r _ => ?_
  rw [val_main_v41_apply, weight_first x2 x6 x10 h, row_kl]
  exact mul_weight _ _ _

/-- The reference's loss. -/
theorem loss_eq (h : Listed x10) : val_main_v45 (F := Ideal) x2 x6 x7 x10 = fun _ => loss
    (∑ i : Fin 16, ∑ r : Fin 8732, if obj (row x2 (Fin.castAdd 16 i) r) ∧ ¬obj (row x6 (Fin.natAdd 16 i) r)
      then klDiff (row x2 (Fin.castAdd 16 i) r) (row x7 (Fin.castAdd 16 i) r) else 0)
    (∑ i : Fin 16, ∑ r : Fin 8732, weight (row x2 (Fin.castAdd 16 i) r) (row x6 (Fin.natAdd 16 i) r)) := by
  funext j
  rw [val_main_v45_apply, val_main_v40_apply, val_main_v44_apply, val_main_v43_apply, total_eq x2 x6 x7 x10 h,
    count_eq x2 x6 x10 h, val_main_cst_12_apply, val_main_cst_9_apply, val_main_cst_11_apply]
  exact select_loss _ _

end Cert.ReferenceIdeal.Body

end
-- ==== Proof.Precond.lean ====
module

public import proofs.«01_k».proof.Pre_scores_loggable_first_half_marked
public import proofs.«01_k».proof.Proof.Gen.Pre_scores_loggable_first_half_marked
public import proofs.«01_k».proof.Proof.RefValue
public import Idealize.ShloMosaic.Lib.Routing.OpsOrder

@[expose] public section

set_option maxRecDepth 16384

noncomputable section

/-! What the precondition says: of the interpolated scores, and of the list of images. -/

namespace Cert.Precond

open Cert.Pre_scores_loggable_first_half_marked Cert.Pre_scores_loggable_first_half_marked.Gen Cert.Rows
open Idealize.ShloMosaic

variable (x0 : IVec S_ 32) (x1 : FVec Ideal S1 .f32) (x2 x3 : FVec Ideal S32x8732x21 .f32) (x4 x5 : FVec Ideal S32x8732x4 .f32)
  (x6 x7 : FVec Ideal S32x8732x21 .f32) (x8 x9 : FVec Ideal S32x8732x4 .f32) (x10 : IVec S16 32)

/-- A comparison's bit that is one says that the comparison holds. -/
theorem of_bit {p : Prop} [Decidable p] (h : BitVec.ofBool (decide p) = 1#1) : p := by
  by_contra hp
  rw [decide_eq_false hp] at h
  exact absurd h (by decide)

/-- A test's bit that is one says that the test is true. -/
theorem of_bit' {b : Bool} (h : BitVec.ofBool b = 1#1) : b = true := by
  cases b
  · exact absurd h (by decide)
  · rfl

/-- No shifted interpolated score of the first half is negative. -/
theorem scores (h : (fn (F := Ideal) x0 x1 x2 x3 x4 x5 x6 x7 x8 x9 x10).1 = fun _ => 1#1) (i : Fin 16) (r : Fin 8732) (l : Fin 21) :
    0 ≤ x7 (ix3 (Fin.castAdd 16 i) r l) + eps := by
  have hb := congrFun h (ix3 i r l)
  have hx : (extractStridedSlice S16x8732x21 ![0, 0, 0] x7 Facts.slices_S32x8732x21_S16x8732x21_0_0_0) (ix3 i r l)
      = x7 (ix3 (Fin.castAdd 16 i) r l) := by
    pointwise
    rfl
  have h0 := of_bit (p := Ideal.ofBits .f32 0x00000000#32
    ≤ (extractStridedSlice S16x8732x21 ![0, 0, 0] x7 Facts.slices_S32x8732x21_S16x8732x21_0_0_0) (ix3 i r l) + eps) hb
  rwa [hx, Ideal.ofBits_zero_f32] at h0

/-- Each image of the first half has an entry in the list. -/
theorem listed (h : (fn (F := Ideal) x0 x1 x2 x3 x4 x5 x6 x7 x8 x9 x10).2 = fun _ => 1#1) :
    Cert.ReferenceIdeal.Body.Listed x10 := by
  intro k
  have hb := congrFun h (ix1 k)
  unfold fn at hb
  dsimp only at hb
  rw [Host.reduce_eq_fold_single IntOp.ori _ _ _ (by decide) _] at hb
  obtain ⟨j, -, hj⟩ := (Routing.fold_ori _ _).mp hb
  refine ⟨j, ?_⟩
  rw [Function.comp_apply] at hj
  have he : ∀ w : IVec S16 32, (cmpi .eq (broadcastInDim S16x16 ![0, 1] Facts.bcast_S16x1_S16x16_0_1 (broadcastInDim S16x1 ![0] Facts.bcast_S16_S16x1_0 w))
      (broadcastInDim S16x16 ![0, 1] Facts.bcast_S1x16_S16x16_0_1 (broadcastInDim S1x16 ![1] Facts.bcast_S16_S1x16_1 (iotaInDim S16 32 0)))) (ix2 j k)
      = IntOp.cmpi .eq (w (ix1 j)) (BitVec.ofNat 32 k.val) := fun w => by
    pointwise
  have hw := he (fn_where (F := Ideal) (cmpi .slt x10 (broadcastInDim S16 ![] Facts.bcast_S_S16 (constantI S_ 32 0#32)))
    (addi x10 (broadcastInDim S16 ![] Facts.bcast_S_S16 (constantI S_ 32 32#32))) x10)
  rw [show (Shape.Reduces.lift (by decide : S16x16.Reduces [0] S16) (ix1 k) j) = ix2 j k from eq_ix2 _] at hj
  exact eq_of_beq (of_bit' (hw.symm.trans hj))

end Cert.Precond

end
-- ==== Proof.lean ====
/- The five claims: the kernel, the idealized kernel and the reference each run to an end with their arguments unchanged
   and their counters at zero; the idealized kernel is the kernel over the extended reals; and over the extended reals
   the kernel and the reference compute the same two results. -/
module

public import proofs.«01_k».proof.Defs
public import proofs.«01_k».proof.Proof.KernelFrame
public import proofs.«01_k».proof.Proof.IdealOutcome
public import proofs.«01_k».proof.Proof.LogRatio
public import proofs.«01_k».proof.Proof.RefValue
public import proofs.«01_k».proof.Proof.Precond
public import Idealize.ShloMosaic.Lib.Quiescent

@[expose] public section

noncomputable section

namespace Cert.Proof

open Idealize.ShloMosaic Idealize.SL.Sem Idealize.ShloMosaic.TcCoe Cert.Rows

/-- The kernel's frame. -/
theorem kernel_frame : Cert.quiescent_Kernel (hKernel := Cert.Kernel.Gen.facts) := fun m g _ =>
  Cert.Kernel.Body.frame_run m g

/-- The idealized kernel's frame. -/
theorem ideal_frame : Cert.quiescent_KernelIdeal (hKernelIdeal := Cert.KernelIdeal.Gen.facts) := fun m g _ =>
  (θ_run _ _ _).mono (fun _ h => ⟨fun c => (h.1 c).2.2, h.2⟩) (Cert.KernelIdeal.Body.ideal_run m g)

/-- The reference's frame: it has no semaphore, so no counter to leave. -/
theorem reference_frame : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run m g)

/-- The two programs' losses agree: the kernel's over the first half's images, the reference's over all of them under
    the list's mask. -/
theorem loss_agrees (m : (ℓ : Loc Cert.KernelIdeal.nD Cert.KernelIdeal.τ Cert.KernelIdeal.sig) → Buf (Elt Ideal) ℓ)
    (c : Dev Cert.KernelIdeal.nD) (x2 x6 x7 : (⟨Cert.ReferenceIdeal.S32x8732x21, .f32⟩ : BufTy).Contents (Elt Ideal))
    (x10 : (⟨Cert.ReferenceIdeal.S16, .i32⟩ : BufTy).Contents (Elt Ideal))
    (h2 : x2 = m ((c.tc : Thread Cert.KernelIdeal.nD Cert.KernelIdeal.τ).loc Cert.KernelIdeal.main_arg2))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (hs : ∀ (i : Fin 16) (r : Fin 8732) (l : Fin 21), 0 ≤ x7 (ix3 (Fin.castAdd 16 i) r l) + eps)
    (hl : Cert.ReferenceIdeal.Body.Listed x10) :
    Cert.ReferenceIdeal.Read.val_main_v45 (F := Ideal) x2 x6 x7 x10
      = fun _ => loss (∑ i, Cert.KernelIdeal.Body.numTerm m c i) (∑ i, Cert.KernelIdeal.Body.cntTerm m c i) := by
  have hleft : ∀ i r, Cert.KernelIdeal.Body.left m c i r = Cert.ReferenceIdeal.Body.row x2 (Fin.castAdd 16 i) r := fun i r => by
    rw [Cert.KernelIdeal.Body.left_eq, h2]; rfl
  have hright : ∀ i r, Cert.KernelIdeal.Body.right m c i r = Cert.ReferenceIdeal.Body.row x6 (Fin.natAdd 16 i) r := fun i r => by
    rw [Cert.KernelIdeal.Body.right_eq, h6]; rfl
  have hinterp : ∀ i r, Cert.KernelIdeal.Body.interp m c i r = Cert.ReferenceIdeal.Body.row x7 (Fin.castAdd 16 i) r := fun i r => by
    rw [Cert.KernelIdeal.Body.interp_eq, h7]; rfl
  have hnum : (∑ i, Cert.KernelIdeal.Body.numTerm m c i) = ∑ i : Fin 16, ∑ r : Fin 8732,
      if obj (Cert.ReferenceIdeal.Body.row x2 (Fin.castAdd 16 i) r) ∧ ¬obj (Cert.ReferenceIdeal.Body.row x6 (Fin.natAdd 16 i) r)
      then klDiff (Cert.ReferenceIdeal.Body.row x2 (Fin.castAdd 16 i) r) (Cert.ReferenceIdeal.Body.row x7 (Fin.castAdd 16 i) r) else 0 := by
    refine Finset.sum_congr rfl fun i _ => ?_
    unfold Cert.KernelIdeal.Body.numTerm
    refine Finset.sum_congr rfl fun r _ => ?_
    rw [hleft, hright, hinterp, klQuot_eq _ (Cert.ReferenceIdeal.Body.row x7 (Fin.castAdd 16 i) r) (hs i r)]
  have hcnt : (∑ i, Cert.KernelIdeal.Body.cntTerm m c i) = ∑ i : Fin 16, ∑ r : Fin 8732,
      weight (Cert.ReferenceIdeal.Body.row x2 (Fin.castAdd 16 i) r) (Cert.ReferenceIdeal.Body.row x6 (Fin.natAdd 16 i) r) := by
    refine Finset.sum_congr rfl fun i _ => ?_
    unfold Cert.KernelIdeal.Body.cntTerm
    exact Finset.sum_congr rfl fun r _ => by rw [hleft, hright]
  rw [hnum, hcnt]
  exact Cert.ReferenceIdeal.Body.loss_eq x2 x6 x7 x10 hl

/-- Over the extended reals the kernel and the reference end with equal results. -/
theorem values : Cert.algebraic_KernelIdeal_ReferenceIdeal_pre_scores_loggable_first_half_marked
    (hKernelIdeal := Cert.KernelIdeal.Gen.facts) (hReferenceIdeal := Cert.ReferenceIdeal.Gen.facts)
    (hPre_scores_loggable_first_half_marked := Cert.Pre_scores_loggable_first_half_marked.Gen.facts) := by
  intro m g m' g' hpre hargs
  refine ⟨fun _ => broadcastInDim Cert.KernelIdeal.S1 ![] Cert.KernelIdeal.Facts₀.bcast_S_S1 (constant (F := Ideal) Cert.KernelIdeal.S_ .f32 0x00000000#32),
    fun c _ => loss (∑ i, Cert.KernelIdeal.Body.numTerm m c i) (∑ i, Cert.KernelIdeal.Body.cntTerm m c i),
    (θ_run _ _ _).mono (fun _ h c => h.1 c) (Cert.KernelIdeal.Body.ideal_run m g),
    (θ_run _ _ _).mono (fun _ h c => ?_) (Cert.ReferenceIdeal.Value.run m' g')⟩
  obtain ⟨-, -, h2, -, -, -, h6, h7, -, -, h10⟩ := hargs c
  obtain ⟨hp1, hp2⟩ := hpre c
  refine ⟨(h c).1, (h c).2.1.trans ?_, (h c).2.2⟩
  rw [Cert.ReferenceIdeal.Read.val_main_v45_eq]
  refine loss_agrees m c _ _ _ _ h2 h6 h7 (fun i r l => ?_) ?_
  · rw [h7]
    exact Cert.Precond.scores _ _ _ _ _ _ _ _ _ _ _ hp1 i r l
  · rw [h10]
    exact Cert.Precond.listed _ _ _ _ _ _ _ _ _ _ _ hp2

/-- All the claims. -/
theorem claim : Cert.Claim :=
  ⟨Cert.Kernel.Gen.facts, Cert.KernelIdeal.Gen.facts, Cert.ReferenceIdeal.Gen.facts,
    Cert.Pre_scores_loggable_first_half_marked.Gen.facts, kernel_frame, ideal_frame, fun m g _ => ideal_frame m g trivial,
    reference_frame, fun m g _ => reference_frame m g trivial, trivial, values⟩

end Cert.Proof

end
